-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024x1024 : Shape := ⟨3, ![32, 1024, 1024]⟩
abbrev S1024x1024 : Shape := ⟨2, ![1024, 1024]⟩
abbrev S1024 : Shape := ⟨1, ![1024]⟩
abbrev S1x1024 : Shape := ⟨2, ![1, 1024]⟩
abbrev S32x1024x256 : Shape := ⟨3, ![32, 1024, 256]⟩
abbrev S1x1024x256 : Shape := ⟨3, ![1, 1024, 256]⟩
abbrev S1x256x1024 : Shape := ⟨3, ![1, 256, 1024]⟩
abbrev S1x256x256 : Shape := ⟨3, ![1, 256, 256]⟩
abbrev S1 : Shape := ⟨1, ![1]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x512 : Shape := ⟨2, ![256, 512]⟩
abbrev S32x256x1024 : Shape := ⟨3, ![32, 256, 1024]⟩

abbrev nBuf : Space → Nat
  | .hbm => 6
  | .vmem => 8
  | .smem => 1
  | _ => 0

abbrev bufTy : (tb : Table) → Fin (tcTables nBuf tb) → BufTy
  | .hbm, ⟨0, _⟩ => ⟨S32x1024x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S32x1024x256, .f32⟩
  | .hbm, ⟨5, _⟩ => ⟨S32x256x1024, .f32⟩
  | .local _ .vmem, ⟨0, _⟩ => ⟨S1x1024x256, .f32⟩
  | .local _ .vmem, ⟨1, _⟩ => ⟨S1x1024x256, .f32⟩
  | .local _ .vmem, ⟨2, _⟩ => ⟨S1024x1024, .f32⟩
  | .local _ .vmem, ⟨3, _⟩ => ⟨S1x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x256, .f32⟩
  | .local _ .vmem, ⟨7, _⟩ => ⟨S1x256x256, .f32⟩
  | .local _ .smem, ⟨0, _⟩ => ⟨S1, .i32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S32x1024x1024 : Shape := ⟨3, ![32, 1024, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S32x1024 : Shape := ⟨2, ![32, 1024]⟩
abbrev S32x1024x1 : Shape := ⟨3, ![32, 1024, 1]⟩
abbrev S32x1024x256 : Shape := ⟨3, ![32, 1024, 256]⟩
abbrev S32x1024x256x1 : Shape := ⟨4, ![32, 1024, 256, 1]⟩
abbrev S1 : Shape := ⟨1, ![1]⟩
abbrev S1x1x1x1 : Shape := ⟨4, ![1, 1, 1, 1]⟩
abbrev S32x256x1024 : Shape := ⟨3, ![32, 256, 1024]⟩

abbrev nBuf : Space → Nat
  | .hbm => 47
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S1024x1024, .f32⟩
  | .hbm, ⟨2, _⟩ => ⟨S1024, .f32⟩
  | .hbm, ⟨3, _⟩ => ⟨S32x1024x1024, .f32⟩
  | .hbm, ⟨4, _⟩ => ⟨S32x1024x1024, .f32⟩
  | .hbm, ⟨5, _⟩ => ⟨S1x1x1024, .f32⟩
  | .hbm, ⟨6, _⟩ => ⟨S32x1024x1024, .f32⟩
  | .hbm, ⟨7, _⟩ => ⟨S32x1024x1024, .f32⟩
  | .hbm, ⟨8, _⟩ => ⟨S_, .f32⟩
  | .hbm, ⟨9, _⟩ => ⟨S32x1024, .f32⟩
  | .hbm, ⟨10, _⟩ => ⟨S_, .f32⟩
  | .hbm, ⟨11, _⟩ => ⟨S32x1024, .f32⟩
  | .hbm, ⟨12, _⟩ => ⟨S32x1024, .f32⟩
  | .hbm, ⟨13, _⟩ => ⟨S32x1024x1, .f32⟩
  | .hbm, ⟨14, _⟩ => ⟨S32x1024x1024, .f32⟩
  | .hbm, ⟨15, _⟩ => ⟨S32x1024x1024, .f32⟩
  | .hbm, ⟨16, _⟩ => ⟨S32x1024x1024, .f32⟩
  | .hbm, ⟨17, _⟩ => ⟨S_, .f32⟩
  | .hbm, ⟨18, _⟩ => ⟨S32x1024, .f32⟩
  | .hbm, ⟨19, _⟩ => ⟨S32x1024x1, .f32⟩
  | .hbm, ⟨20, _⟩ => ⟨S32x1024x1024, .f32⟩
  | .hbm, ⟨21, _⟩ => ⟨S32x1024x1024, .f32⟩
  | .hbm, ⟨22, _⟩ => ⟨S32x1024x256, .f32⟩
  | .hbm, ⟨23, _⟩ => ⟨S32x1024x256, .i32⟩
  | .hbm, ⟨24, _⟩ => ⟨S_, .i32⟩
  | .hbm, ⟨25, _⟩ => ⟨S32x1024x256, .i32⟩
  | .hbm, ⟨26, _⟩ => ⟨S32x1024x256, .i1⟩
  | .hbm, ⟨27, _⟩ => ⟨S_, .i32⟩
  | .hbm, ⟨28, _⟩ => ⟨S32x1024x256, .i32⟩
  | .hbm, ⟨29, _⟩ => ⟨S32x1024x256, .i32⟩
  | .hbm, ⟨30, _⟩ => ⟨S32x1024x256, .i32⟩
  | .hbm, ⟨31, _⟩ => ⟨S32x1024x256x1, .i32⟩
  | .hbm, ⟨32, _⟩ => ⟨S1, .i32⟩
  | .hbm, ⟨33, _⟩ => ⟨S_, .i32⟩
  | .hbm, ⟨34, _⟩ => ⟨S32x1024x256x1, .i32⟩
  | .hbm, ⟨35, _⟩ => ⟨S32x1024x256x1, .i1⟩
  | .hbm, ⟨36, _⟩ => ⟨S1x1x1x1, .i32⟩
  | .hbm, ⟨37, _⟩ => ⟨S32x1024x256x1, .i32⟩
  | .hbm, ⟨38, _⟩ => ⟨S32x1024x256x1, .i1⟩
  | .hbm, ⟨39, _⟩ => ⟨S32x1024x256x1, .i1⟩
  | .hbm, ⟨40, _⟩ => ⟨S_, .i1⟩
  | .hbm, ⟨41, _⟩ => ⟨S32x1024x256, .i1⟩
  | .hbm, ⟨42, _⟩ => ⟨S32x1024x256, .f32⟩
  | .hbm, ⟨43, _⟩ => ⟨S_, .f32⟩
  | .hbm, ⟨44, _⟩ => ⟨S32x1024x256, .f32⟩
  | .hbm, ⟨45, _⟩ => ⟨S32x1024x256, .f32⟩
  | .hbm, ⟨46, _⟩ => ⟨S32x256x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]
-- ==== Proof.Stage.lean ====
/-
  One compare-exchange stage of the kernel's selection network, as a function of the three vectors it carries, and a list of
  stages run in turn. Nothing here depends on the kernel's shapes: the stage runs along an axis of `2 ^ p` positions of any shape.
-/
module

public import Idealize.ShloMosaic.PureOps

@[expose] public section

noncomputable section

namespace Cert.TopK

open Idealize.ShloMosaic

variable {F : FTy → Type} [FloatOps F] {s : Shape} {a : Fin s.rank}

/-- The three vectors a stage carries: the keys it ranks by, the positions the keys came from, the payloads that ride along. -/
structure Carried (F : FTy → Type) (s : Shape) where
  /-- the keys -/
  key : FVec F s .f32
  /-- the positions they came from -/
  idx : IVec s 32
  /-- the payloads -/
  pay : FVec F s .f32

/-- "Bit `d` of the position is set", for `d` a power of two. -/
def bitSet (pos : IVec s 32) (d : BitVec 32) : IVec s 1 := cmpi .ne (andi pos (broadcast s d)) (broadcast s 0#32)

/-- The partner's element: the rotate by `d` where the bit is set, the rotate by `nd` elsewhere. -/
def other {α : Type} (h : s.Rotates a none) (high : IVec s 1) (d nd : BitVec 32) (x : s.Idx → α) : s.Idx → α :=
  select high (dynamicRotate a d none x h) (dynamicRotate a nd none x h)

/-- "Take the partner": whether the partner's key is greater (or equal with a lower position) agrees with whether the position is
    the one of its pair that the greater entry goes to. -/
def taken (high asc : IVec s 1) (key pkey : FVec F s .f32) (idx pidx : IVec s 32) : IVec s 1 :=
  xori (xori (ori (cmpf .ogt pkey key) (andi (cmpf .oeq pkey key) (cmpi .slt pidx idx)))
    (xori (xori high asc) (constantI s 1 1#1))) (constantI s 1 1#1)

/-- One stage: every position is compared with its partner at distance `d`, and takes the partner's three elements or keeps its own. -/
def exchange (h : s.Rotates a none) (high asc : IVec s 1) (d nd : BitVec 32) (c : Carried F s) : Carried F s where
  key := select (taken high asc c.key (other h high d nd c.key) c.idx (other h high d nd c.idx)) (other h high d nd c.key) c.key
  idx := select (taken high asc c.key (other h high d nd c.key) c.idx (other h high d nd c.idx)) (other h high d nd c.idx) c.idx
  pay := select (taken high asc c.key (other h high d nd c.key) c.idx (other h high d nd c.idx)) (other h high d nd c.pay) c.pay

/-- The stage at distance `2 ^ t.2` of `2 ^ p` positions, ascending in the blocks where bit `t.1` of the position is set. -/
def stageAt (p : Nat) (h : s.Rotates a none) (pos : IVec s 32) (c : Carried F s) (t : Nat × Nat) : Carried F s :=
  exchange h (bitSet pos (BitVec.ofNat 32 (2 ^ t.2))) (bitSet pos (BitVec.ofNat 32 (2 ^ t.1))) (BitVec.ofNat 32 (2 ^ t.2))
    (BitVec.ofNat 32 (2 ^ p - 2 ^ t.2)) c

/-- A list of stages, first to last. -/
def stages (p : Nat) (h : s.Rotates a none) (pos : IVec s 32) (l : List (Nat × Nat)) (c : Carried F s) : Carried F s :=
  l.foldl (stageAt p h pos) c

/-- The stages of one level: distances `2 ^ l, …, 2, 1`, the direction by bit `l + 1`. -/
def levelStages (l : Nat) : List (Nat × Nat) := (List.range (l + 1)).reverse.map fun t => (l + 1, t)

/-- The first `n` levels of the sort. -/
def levelsStages (n : Nat) : List (Nat × Nat) := (List.range n).flatMap levelStages

/-- Two lists of stages run one after the other. -/
theorem stages_append (p : Nat) (h : s.Rotates a none) (pos : IVec s 32) (l l' : List (Nat × Nat)) (c : Carried F s) :
    stages p h pos (l ++ l') c = stages p h pos l' (stages p h pos l c) := List.foldl_append

end Cert.TopK

end
-- ==== Proof.Block.lean ====
/-
  What one grid point of the kernel computes, as a function of its four input blocks: the softmax keys, eight levels of the
  sort in chunks of 256 along 1024 lanes, the halving to 512 lanes and to 256 lanes, the last merge, and the payloads stored.
-/
module

public import proofs.«01_k».proof.Proof.Stage
public import Idealize.ShloMosaic.Lib.WholeRead
public import proofs.«01_k».proof.Proof.Gen.KernelIdeal.Frame

@[expose] public section

noncomputable section

namespace Cert.TopK

open Idealize.ShloMosaic Cert.KernelIdeal Cert.KernelIdeal.Gen

variable {F : FTy → Type} [FloatOps F]

/-- The lane numbers of 1024, of 512 and of 256 lanes. -/
def lanes1024 : IVec S256x1024 32 := iota .tc S256x1024 32 [1] iota_S256x1024_d1_w32
/-- The lane numbers of 512 lanes. -/
def lanes512 : IVec S256x512 32 := iota .tc S256x512 32 [1] iota_S256x512_d1_w32
/-- The lane numbers of 256 lanes. -/
def lanes256 : IVec S256x256 32 := iota .tc S256x256 32 [1] iota_S256x256_d1_w32

/-- The first and the last of four chunks of 256 lanes, side by side. -/
def outerChunks {α : Type} (x : S256x1024.Idx → α) : S256x512.Idx → α :=
  concatenate S256x512 1 [⟨S256x256, extractStridedSlice S256x256 ![0, 0] x slices_S256x1024_o0_0_S256x256⟩,
    ⟨S256x256, extractStridedSlice S256x256 ![0, 768] x slices_S256x1024_o0_768_S256x256⟩] concatenates_S256x256_S256x256_S256x512_d1

/-- The first of two chunks of 256 lanes. -/
def firstChunk {α : Type} (x : S256x512.Idx → α) : S256x256.Idx → α :=
  extractStridedSlice S256x256 ![0, 0] x slices_S256x512_o0_0_S256x256

/-- The three vectors, the first and the last chunk of each. -/
def outer (c : Carried F S256x1024) : Carried F S256x512 := ⟨outerChunks c.key, outerChunks c.idx, outerChunks c.pay⟩

/-- The three vectors, the first chunk of each. -/
def first (c : Carried F S256x512) : Carried F S256x256 := ⟨firstChunk c.key, firstChunk c.idx, firstChunk c.pay⟩

/-- On 1024 lanes: the sort's first eight levels, then each pair of chunks compared. -/
def on1024 (key pay : FVec F S256x1024 .f32) : Carried F S256x1024 :=
  stages 10 rotates_S256x1024_d1 lanes1024 (levelsStages 8 ++ [(9, 8)]) ⟨key, lanes1024, pay⟩

/-- On 512 lanes: the two kept chunks merged, one descending and one ascending, then compared. -/
def on512 (c : Carried F S256x1024) : Carried F S256x512 :=
  stages 9 rotates_S256x512_d1 lanes512 (levelStages 7 ++ [(9, 8)]) (outer c)

/-- On 256 lanes: the kept chunk merged. -/
def on256 (c : Carried F S256x512) : Carried F S256x256 :=
  stages 8 rotates_S256x256_d1 lanes256 (levelStages 7) (first c)

/-- The stored block. -/
def stored (key pay : FVec F S256x1024 .f32) : FVec F S1x256x256 .f32 :=
  shapeCast S1x256x256 (on256 (on512 (on1024 key pay))).pay shapeCasts_S256x256_S1x256x256

/-- The softmax keys of one block: the scores of 256 payload columns against the 1024 rows of the weights, plus the bias, each
    row's exponentials over their sum. -/
def keys (v0 : Vec F S1x1024x256 .f32) (v2 : Vec F S1024x1024 .f32) (v4 : Vec F S1x1024 .f32) : FVec F S256x1024 .f32 :=
  k0_pay2 v0 v2 v4

/-- A load of a whole memref's view through the rectangle of the whole shape reads the memref's contents. -/
theorem _root_.Idealize.ShloMosaic.Memref.IsWhole.readAt_full {sp : Space} {s : Shape} {e : EltTy} {m : Memref sig .tc sp s e}
    (h : m.IsWhole) (x : s.Idx → Elt F e) (off : Fin s.rank → Nat) (inb : ∀ a, off a + s.size a ≤ s.size a) :
    View.readAt (Elt F) m.view (Rect.unit off s.size inb).toLoadRect (h.unread x) = x := by
  funext y
  rw [h.readAt_unread]
  congr 1
  funext a
  have h0 := inb a
  apply Fin.ext
  simp
  omega

section Checkpoints

variable (c : Dev nD) (arg2 : Memref sig .tc .vmem S1x1024x256 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x256x1024 .f32) (harg5 : arg5.IsWhole)
  (x0 : Vec F S1x1024x256 .f32) (x1 : Vec F S1024x1024 .f32) (x2 : Vec F S1x1024 .f32) (x3 : Vec F S1x256x1024 .f32)

/-- The kernel's values after the sort's first 3 levels. -/
def at3 : Carried F S256x1024 where
  key := kernelRun0_A.sl.r_18 c arg2 harg2 arg3 harg3 arg4 harg4 x0 x1 x2
  idx := kernelRun0_A.sl.r_19 c arg2 harg2 arg3 harg3 arg4 harg4 x0 x1 x2
  pay := kernelRun0_A.sl.r_20 c arg2 harg2 arg3 harg3 arg4 harg4 arg5 harg5 x0 x1 x2 x3

/-- The kernel's values after the sort's first 4 levels. -/
def at4 : Carried F S256x1024 where
  key := kernelRun0_A.sl.r_31 c arg2 harg2 arg3 harg3 arg4 harg4 x0 x1 x2
  idx := kernelRun0_A.sl.r_32 c arg2 harg2 arg3 harg3 arg4 harg4 x0 x1 x2
  pay := kernelRun0_A.sl.r_33 c arg2 harg2 arg3 harg3 arg4 harg4 arg5 harg5 x0 x1 x2 x3

/-- The kernel's values after the sort's first 5 levels. -/
def at5 : Carried F S256x1024 where
  key := kernelRun0_A.sl.r_48 c arg2 harg2 arg3 harg3 arg4 harg4 x0 x1 x2
  idx := kernelRun0_A.sl.r_49 c arg2 harg2 arg3 harg3 arg4 harg4 x0 x1 x2
  pay := kernelRun0_A.sl.r_50 c arg2 harg2 arg3 harg3 arg4 harg4 arg5 harg5 x0 x1 x2 x3

/-- The kernel's values after the sort's first 6 levels. -/
def at6 : Carried F S256x1024 where
  key := kernelRun0_A.sl.r_68 c arg2 harg2 arg3 harg3 arg4 harg4 x0 x1 x2
  idx := kernelRun0_A.sl.r_69 c arg2 harg2 arg3 harg3 arg4 harg4 x0 x1 x2
  pay := kernelRun0_A.sl.r_70 c arg2 harg2 arg3 harg3 arg4 harg4 arg5 harg5 x0 x1 x2 x3

/-- The kernel's values after the sort's first 7 levels. -/
def at7 : Carried F S256x1024 where
  key := kernelRun0_A.sl.r_91 c arg2 harg2 arg3 harg3 arg4 harg4 x0 x1 x2
  idx := kernelRun0_A.sl.r_92 c arg2 harg2 arg3 harg3 arg4 harg4 x0 x1 x2
  pay := kernelRun0_A.sl.r_93 c arg2 harg2 arg3 harg3 arg4 harg4 arg5 harg5 x0 x1 x2 x3

/-- The kernel's values on 512 lanes after the first stage. -/
def atMerge : Carried F S256x512 where
  key := kernelRun0_A.sl.r_124 c arg2 harg2 arg3 harg3 arg4 harg4 x0 x1 x2
  idx := kernelRun0_A.sl.r_125 c arg2 harg2 arg3 harg3 arg4 harg4 x0 x1 x2
  pay := kernelRun0_A.sl.r_126 c arg2 harg2 arg3 harg3 arg4 harg4 arg5 harg5 x0 x1 x2 x3

/-- The kernel's values on 256 lanes before the first stage. -/
def atKept : Carried F S256x256 where
  key := kernelRun0_A.sl.r_149 c arg2 harg2 arg3 harg3 arg4 harg4 x0 x1 x2
  idx := kernelRun0_A.sl.r_150 c arg2 harg2 arg3 harg3 arg4 harg4 x0 x1 x2
  pay := kernelRun0_A.sl.r_151 c arg2 harg2 arg3 harg3 arg4 harg4 arg5 harg5 x0 x1 x2 x3

/-- The first 3 levels are the list of their stages, run from the start. -/
theorem at3_eq : at3 c arg2 harg2 arg3 harg3 arg4 harg4 arg5 harg5 x0 x1 x2 x3
    = stages 10 rotates_S256x1024_d1 lanes1024 (levelsStages 3) ⟨kernelRun0_A.sl.r c arg2 harg2 arg3 harg3 arg4 harg4 x0 x1 x2, lanes1024, kernelRun0_A.sl.r_1 c arg5 harg5 x3⟩ := by
  sl_kernel_rfl

/-- Level 4 is the list of its stages, run on what level 3 leaves. -/
theorem at4_eq : at4 c arg2 harg2 arg3 harg3 arg4 harg4 arg5 harg5 x0 x1 x2 x3
    = stages 10 rotates_S256x1024_d1 lanes1024 (levelStages 3) (at3 c arg2 harg2 arg3 harg3 arg4 harg4 arg5 harg5 x0 x1 x2 x3) := by
  sl_kernel_rfl

/-- Level 5 likewise, on what level 4 leaves. -/
theorem at5_eq : at5 c arg2 harg2 arg3 harg3 arg4 harg4 arg5 harg5 x0 x1 x2 x3
    = stages 10 rotates_S256x1024_d1 lanes1024 (levelStages 4) (at4 c arg2 harg2 arg3 harg3 arg4 harg4 arg5 harg5 x0 x1 x2 x3) := by
  sl_kernel_rfl

/-- Level 6 likewise, on what level 5 leaves. -/
theorem at6_eq : at6 c arg2 harg2 arg3 harg3 arg4 harg4 arg5 harg5 x0 x1 x2 x3
    = stages 10 rotates_S256x1024_d1 lanes1024 (levelStages 5) (at5 c arg2 harg2 arg3 harg3 arg4 harg4 arg5 harg5 x0 x1 x2 x3) := by
  sl_kernel_rfl

/-- Level 7 likewise, on what level 6 leaves. -/
theorem at7_eq : at7 c arg2 harg2 arg3 harg3 arg4 harg4 arg5 harg5 x0 x1 x2 x3
    = stages 10 rotates_S256x1024_d1 lanes1024 (levelStages 6) (at6 c arg2 harg2 arg3 harg3 arg4 harg4 arg5 harg5 x0 x1 x2 x3) := by
  sl_kernel_rfl

/-- Level 8 and the stage at distance 256; the first and the last chunk are kept, and the first stage runs on the 512 lanes. -/
theorem atMerge_eq : atMerge c arg2 harg2 arg3 harg3 arg4 harg4 arg5 harg5 x0 x1 x2 x3
    = stages 9 rotates_S256x512_d1 lanes512 [(8, 7)] (outer (stages 10 rotates_S256x1024_d1 lanes1024 (levelStages 7 ++ [(9, 8)]) (at7 c arg2 harg2 arg3 harg3 arg4 harg4 arg5 harg5 x0 x1 x2 x3))) := by
  sl_kernel_rfl

/-- The rest of the merge on 512 lanes and the stage at distance 256; the first chunk is kept. -/
theorem atKept_eq : atKept c arg2 harg2 arg3 harg3 arg4 harg4 arg5 harg5 x0 x1 x2 x3
    = first (stages 9 rotates_S256x512_d1 lanes512 ([(8, 6), (8, 5), (8, 4), (8, 3), (8, 2), (8, 1), (8, 0)] ++ [(9, 8)]) (atMerge c arg2 harg2 arg3 harg3 arg4 harg4 arg5 harg5 x0 x1 x2 x3)) := by
  sl_kernel_rfl

/-- The block stored: the payloads after the last merge, on 256 lanes. -/
theorem stored_eq : k0_pay1 (kernelRun0_A.sl.r_174 c arg2 harg2 arg3 harg3 arg4 harg4 arg5 harg5 x0 x1 x2 x3) (kernelRun0_A.sl.r_175 c arg2 harg2 arg3 harg3 arg4 harg4 arg5 harg5 x0 x1 x2 x3)
      (kernelRun0_A.sl.r_176 c arg2 harg2 arg3 harg3 arg4 harg4 x0 x1 x2) kernelRun0_A.sl.cst_539
    = shapeCast S1x256x256 (stages 8 rotates_S256x256_d1 lanes256 (levelStages 7) (atKept c arg2 harg2 arg3 harg3 arg4 harg4 arg5 harg5 x0 x1 x2 x3)).pay shapeCasts_S256x256_S1x256x256 := by
  sl_kernel_rfl

/-- The keys the kernel starts from are the block's softmax keys. -/
theorem start_key : kernelRun0_A.sl.r c arg2 harg2 arg3 harg3 arg4 harg4 x0 x1 x2 = keys x0 x1 x2 := by
  unfold kernelRun0_A.sl.r keys
  rw [harg2.readAt_full, harg3.readAt_full, harg4.readAt_full]

/-- The payloads the kernel starts from are the payload block. -/
theorem start_pay : kernelRun0_A.sl.r_1 c arg5 harg5 x3 = k0_pay3 x3 := by
  unfold kernelRun0_A.sl.r_1
  rw [harg5.readAt_full]

end Checkpoints

/-- A run's one store: the whole output block, at the value `stored` names. -/
theorem pieces_eq (c : Dev nD) (i : grid0.Coords) (arg2 : Memref sig .tc .vmem S1x1024x256 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x256x1024 .f32) (harg5 : arg5.IsWhole) (arg6 : Memref sig .tc .vmem S1x256x256 .f32) (harg6 : arg6.IsWhole) (arg7 : Memref sig .tc .smem S1 .i32) (harg7 : arg7.IsWhole)
    (x0 : Vec F S1x1024x256 .f32) (x1 : Vec F S1024x1024 .f32) (x2 : Vec F S1x1024 .f32) (x3 : Vec F S1x256x1024 .f32) :
    (kernelRun0_A c i arg2 harg2 arg3 harg3 arg4 harg4 arg5 harg5 arg6 harg6 arg7 harg7 x0 x1 x2 x3).1
      = [⟨Rect.unit ![0, 0, 0] ![1, 256, 256] inb_S1x256x256_S1x256x256_0_0_0, stored (keys x0 x1 x2) (k0_pay3 x3)⟩] := by
  have e : stored (keys x0 x1 x2) (k0_pay3 x3) = k0_pay1 (kernelRun0_A.sl.r_174 c arg2 harg2 arg3 harg3 arg4 harg4 arg5 harg5 x0 x1 x2 x3) (kernelRun0_A.sl.r_175 c arg2 harg2 arg3 harg3 arg4 harg4 arg5 harg5 x0 x1 x2 x3)
      (kernelRun0_A.sl.r_176 c arg2 harg2 arg3 harg3 arg4 harg4 x0 x1 x2) kernelRun0_A.sl.cst_539 := by
    rw [stored_eq, atKept_eq, atMerge_eq, at7_eq, at6_eq, at5_eq, at4_eq, at3_eq, start_key, start_pay, stored, on256, on512, on1024]
    have h8 : levelsStages 8 ++ [(9, 8)] = levelsStages 3 ++ (levelStages 3 ++ (levelStages 4 ++ (levelStages 5 ++ (levelStages 6 ++ (levelStages 7 ++ [(9, 8)]))))) := by
      decide +kernel
    have h7 : levelStages 7 ++ [(9, 8)] = [(8, 7)] ++ ([(8, 6), (8, 5), (8, 4), (8, 3), (8, 2), (8, 1), (8, 0)] ++ [(9, 8)]) := by decide +kernel
    rw [h8, stages_append _ _ _ (levelsStages 3), stages_append _ _ _ (levelStages 3), stages_append _ _ _ (levelStages 4),
      stages_append _ _ _ (levelStages 5), stages_append _ _ _ (levelStages 6), ← stages_append 9, ← h7]
  rw [e]
  rfl

end Cert.TopK

end
-- ==== Proof.Net.lean ====
/-
  The kernel's selection network over any linear order: eight levels of the bitonic sort of 1024 entries (four sorted chunks of 256, in
  alternating directions), the greater of each pair of chunks, one merge of each of the two, the greater of the two, and one last merge
  leave the 256 greatest of the 1024 entries, in descending order.
-/
module

public import proofs.«01_k».proof.Proof.Stage
public import Idealize.ShloMosaic.Lib.SortNet.Sorts
public import Idealize.ShloMosaic.Lib.SortNet.Fold
public import Idealize.ShloMosaic.Lib.SortNet.TopList

@[expose] public section

namespace Cert.TopK

open Idealize.ShloMosaic.SortNet

variable {α : Type*} [LinearOrder α]

/-- The network of a list of stages `(t, s)`: distance `2 ^ s`, the greater entry first where bit `t` of the position is clear. -/
def netOf (p : Nat) (l : List (Nat × Nat)) : Network (2 ^ p) :=
  l.flatMap fun t => stage p t.2 fun i => decide (i.val &&& 2 ^ t.1 = 0)

/-- The network of two lists of stages, one after the other, is the one network after the other. -/
theorem netOf_append (p : Nat) (l l' : List (Nat × Nat)) : netOf p (l ++ l') = netOf p l ++ netOf p l' := by
  simp only [netOf, List.flatMap_append]

/-- One level's stages are the library's level, descending. -/
theorem netOf_levelStages (p l : Nat) : netOf p (levelStages l) = levelNet p true l := by
  simp only [netOf, levelStages, levelNet, List.flatMap_map, beq_true]

/-- The first `n` levels' stages are the library's first `n` levels, descending. -/
theorem netOf_levelsStages (p n : Nat) : netOf p (levelsStages n) = levelsNet p true n := by
  simp only [levelsStages, levelsNet, netOf, List.flatMap_assoc]
  exact congrArg (fun f => (List.range n).flatMap f) (funext fun l => netOf_levelStages p l)

/-- The entries of chunk `c` of 256, of a vector of at least `(c + 1) * 256` entries. -/
def chunk {n : Nat} (c : Nat) (h : (c + 1) * 256 ≤ n) (v : Fin n → α) : Fin (2 ^ 8) → α :=
  fun j => v ⟨c * 256 + j.val, by have : j.val < 256 := j.isLt; omega⟩

/-- What is kept of 1024 entries: the first and the last chunk. -/
def keepOuter {β : Type*} (v : Fin (2 ^ 10) → β) : Fin (2 ^ 9) → β :=
  fun j => v ⟨if j.val < 256 then j.val else j.val + 512, by have : j.val < 512 := j.isLt; show _ < 1024; split <;> omega⟩

/-- What is kept of 512 entries: the first chunk. -/
def keepFirst {β : Type*} (v : Fin (2 ^ 9) → β) : Fin (2 ^ 8) → β :=
  fun j => v ⟨j.val, by have : j.val < 256 := j.isLt; show _ < 512; omega⟩

/-- The first chunk of what is kept of 1024 entries is their first chunk. -/
theorem chunk_zero_keepOuter {β : Type*} [LinearOrder β] (v : Fin (2 ^ 10) → β) (j : Fin (2 ^ 8)) :
    chunk 0 (by decide) (keepOuter v) j = chunk 0 (by decide) v j := by
  have hj : j.val < 256 := j.isLt
  unfold chunk keepOuter
  congr 2
  exact if_pos (by show 0 * 256 + j.val < 256; omega)

/-- The second chunk of what is kept of 1024 entries is their last chunk. -/
theorem chunk_one_keepOuter {β : Type*} [LinearOrder β] (v : Fin (2 ^ 10) → β) (j : Fin (2 ^ 8)) :
    chunk 1 (by decide) (keepOuter v) j = chunk 3 (by decide) v j := by
  have hj : j.val < 256 := j.isLt
  unfold chunk keepOuter
  congr 2
  exact (if_neg (by show ¬1 * 256 + j.val < 256; omega)).trans (by show 1 * 256 + j.val + 512 = 3 * 256 + j.val; omega)

/-- What is kept of 512 entries is their first chunk. -/
theorem keepFirst_eq_chunk {β : Type*} [LinearOrder β] (v : Fin (2 ^ 9) → β) (j : Fin (2 ^ 8)) :
    keepFirst v j = chunk 0 (by decide) v j := by
  unfold chunk keepFirst
  congr 2
  omega

/-- The whole selection. -/
def select256 (v : Fin (2 ^ 10) → α) : Fin (2 ^ 8) → α :=
  Network.apply (netOf 8 (levelStages 7)) <| keepFirst <|
    Network.apply (netOf 9 (levelStages 7 ++ [(9, 8)])) <| keepOuter <| Network.apply (netOf 10 (levelsStages 8 ++ [(9, 8)])) v

/-- The stage at distance 256 leaves in an even chunk, where the direction is descending, the greater entries of the pair of chunks. -/
theorem stage_low {p : Nat} (hp : 8 < p) (t : Nat) (v : Fin (2 ^ p) → α) (i k : Fin (2 ^ p)) (hi : i.val &&& 2 ^ 8 = 0)
    (ht : i.val &&& 2 ^ t = 0) (hk : k.val = i.val ^^^ 2 ^ 8) :
    Network.apply (netOf p [(t, 8)]) v i = max (v i) (v k) := by
  have e : partner p 8 i = k := Fin.ext (by rw [partner_val hp, hk])
  have h := (apply_stage hp (fun i => decide (i.val &&& 2 ^ t = 0)) v i hi).1
  rw [e, if_pos (by simpa using ht)] at h
  rw [← h]
  simp only [netOf, List.flatMap_cons, List.flatMap_nil, List.append_nil]

/-- And in an odd chunk, where the direction is ascending. -/
theorem stage_high {p : Nat} (hp : 8 < p) (t : Nat) (v : Fin (2 ^ p) → α) (i k : Fin (2 ^ p)) (hi : i.val &&& 2 ^ 8 = 0)
    (ht : ¬i.val &&& 2 ^ t = 0) (hk : k.val = i.val ^^^ 2 ^ 8) :
    Network.apply (netOf p [(t, 8)]) v k = max (v i) (v k) := by
  have e : partner p 8 i = k := Fin.ext (by rw [partner_val hp, hk])
  have h := (apply_stage hp (fun i => decide (i.val &&& 2 ^ t = 0)) v i hi).2
  rw [e, if_neg (by simpa using ht)] at h
  rw [← h]
  simp only [netOf, List.flatMap_cons, List.flatMap_nil, List.append_nil]

/-- Bits 8 and 9 of a position of 1024, by its chunk of 256, and its partner at distance 256. -/
theorem chunk_bits : ∀ j : Fin 256, (0 * 256 + j.val) &&& 2 ^ 8 = 0 ∧ (0 * 256 + j.val) &&& 2 ^ 9 = 0 ∧
    1 * 256 + j.val = (0 * 256 + j.val) ^^^ 2 ^ 8 ∧ (2 * 256 + j.val) &&& 2 ^ 8 = 0 ∧ ¬(2 * 256 + j.val) &&& 2 ^ 9 = 0 ∧
    3 * 256 + j.val = (2 * 256 + j.val) ^^^ 2 ^ 8 := by
  decide +kernel

/-- A vector is its chunks, one after the other. -/
theorem ofFn_chunks {β : Type*} [LinearOrder β] (v : Fin (2 ^ 10) → β) :
    List.ofFn v = (List.ofFn (chunk 0 (by decide) v) ++ List.ofFn (chunk 1 (by decide) v)) ++
      (List.ofFn (chunk 2 (by decide) v) ++ List.ofFn (chunk 3 (by decide) v)) := by
  have h : List.ofFn v = (List.ofFn fun c : Fin 4 => List.ofFn fun j : Fin 256 => v ⟨c.val * 256 + j.val, by
      have := c.isLt; have := j.isLt; show _ < 1024; omega⟩).flatten := List.ofFn_mul (m := 4) (n := 256) v
  have g : ∀ f : Fin 4 → List β, (List.ofFn f).flatten = (f 0 ++ f 1) ++ (f 2 ++ f 3) := by
    intro f
    simp [List.ofFn_succ]
  exact h.trans (g _)

/-- A network rearranges. -/
theorem ofFn_apply_perm {n : Nat} (N : Network n) (v : Fin n → α) : (List.ofFn (Network.apply N v)).Perm (List.ofFn v) := by
  obtain ⟨σ, hσ⟩ := Network.exists_perm N v
  rw [hσ]
  exact Equiv.Perm.ofFn_comp_perm σ v

/-- THE SELECTION SELECTS: it leaves the 256 greatest entries, in descending order. -/
theorem ofFn_select256 (v : Fin (2 ^ 10) → α) : List.ofFn (select256 v) = topList (2 ^ 8) (List.ofFn v) := by
  unfold select256
  rw [netOf_append 10, netOf_append 9, Network.apply_append, Network.apply_append, netOf_levelsStages, netOf_levelStages, netOf_levelStages]
  set L := Network.apply (levelsNet 10 true 8) v with hL
  have hperm : (List.ofFn L).Perm (List.ofFn v) := ofFn_apply_perm _ v
  -- the four chunks are sorted, in alternating directions
  have hs := sortNet_levels 10 true v 8 (by decide)
  have h0 : Antitone (chunk 0 (by decide) L) := (hs ⟨0, by decide⟩).1 (by decide)
  have h1 : Monotone (chunk 1 (by decide) L) := (hs ⟨1, by decide⟩).2 (by decide)
  have h2 : Antitone (chunk 2 (by decide) L) := (hs ⟨2, by decide⟩).1 (by decide)
  have h3 : Monotone (chunk 3 (by decide) L) := (hs ⟨3, by decide⟩).2 (by decide)
  -- the pairs of chunks compared, and the greater of each pair kept
  set P := Network.apply (netOf 10 [(9, 8)]) L with hP
  have hP0 : chunk 0 (by decide) (keepOuter P) = fun j => max (chunk 0 (by decide) L j) (chunk 1 (by decide) L j) := by
    funext j
    have b := chunk_bits j
    have hj : j.val < 256 := j.isLt
    rw [chunk_zero_keepOuter]
    exact stage_low (by decide) 9 L _ _ b.1 b.2.1 b.2.2.1
  have hP1 : chunk 1 (by decide) (keepOuter P) = fun j => max (chunk 2 (by decide) L j) (chunk 3 (by decide) L j) := by
    funext j
    have b := chunk_bits j
    have hj : j.val < 256 := j.isLt
    rw [chunk_one_keepOuter]
    exact stage_high (by decide) 9 L _ _ b.2.2.2.1 b.2.2.2.2.1 b.2.2.2.2.2
  -- the two merges
  set M := Network.apply (levelNet 9 true 7) (keepOuter P) with hM
  have hM0 : chunk 0 (by decide) M = Network.apply (mergeDescNet 8) (chunk 0 (by decide) (keepOuter P)) := by
    funext j
    exact (apply_levelNet_chunkPos (p := 9) (l := 7) (by decide) true (keepOuter P) ⟨0, by decide⟩ j).trans (if_pos (by decide))
  have hM1 : chunk 1 (by decide) M = Network.apply (mergeAscNet 8) (chunk 1 (by decide) (keepOuter P)) := by
    funext j
    exact (apply_levelNet_chunkPos (p := 9) (l := 7) (by decide) true (keepOuter P) ⟨1, by decide⟩ j).trans (if_neg (by decide))
  have f0 := foldStep 8 _ _ h0 h1
  have f1 := foldStep 8 _ _ h2 h3
  rw [← hP0] at f0
  rw [← hP1] at f1
  have m0 : Antitone (chunk 0 (by decide) M) := by rw [hM0]; exact f0.1
  have m1 : Monotone (chunk 1 (by decide) M) := by
    rw [hM1, hP1]; exact mergeAscNet_apply_monotone 8 _ (descAsc_max _ _ h2 h3)
  -- the two merged chunks compared, and the greater kept
  have hK : keepFirst (Network.apply (netOf 9 [(9, 8)]) M) = fun j => max (chunk 0 (by decide) M j) (chunk 1 (by decide) M j) := by
    funext j
    have b := chunk_bits j
    have hj : j.val < 256 := j.isLt
    rw [keepFirst_eq_chunk]
    exact stage_low (by decide) 9 M _ _ b.1 b.2.1 b.2.2.1
  have hfin : levelNet 8 true 7 = mergeDescNet 8 := by
    have e : (fun i : Fin (2 ^ 8) => decide (i.val &&& 2 ^ (7 + 1) = 0) == true) = fun _ => true := by
      funext i
      have hi : (0 * 256 + i.val) &&& 2 ^ 8 = 0 := (chunk_bits i).1
      rw [Nat.zero_mul, Nat.zero_add] at hi
      rw [show 7 + 1 = 8 from rfl, hi]
      rfl
    unfold levelNet mergeDescNet
    rw [e]
  rw [hK, hfin, (foldStep 8 _ _ m0 m1).2, hM0, f0.2]
  have p1 : (List.ofFn (chunk 1 (by decide) M)).Perm
      (List.ofFn (Network.apply (mergeDescNet 8) (chunk 1 (by decide) (keepOuter P)))) := by
    rw [hM1]
    exact (ofFn_apply_perm _ _).trans (ofFn_apply_perm _ _).symm
  rw [topList_perm (p1.append_left _), f1.2, topList_append_topList_topList, ← ofFn_chunks, topList_perm hperm]

end Cert.TopK

end
-- ==== Proof.StageFacts.lean ====
/-
  A stage of the kernel's network on real keys, read along a column: where the three vectors hold the entries `E` (key, position
  and the payload of that position), after the stage they hold the entries a compare-exchange stage of the network leaves.
-/
module

public import proofs.«01_k».proof.Proof.Net
public import Idealize.ShloMosaic.Lib.SortNet.Printed
public import Idealize.ShloMosaic.PureOps.Ideal.Laws

@[expose] public section

noncomputable section

namespace Cert.TopK

open Idealize.ShloMosaic Idealize.ShloMosaic.SortNet

/-- A key with the position it came from, greater keys greater, of equal keys the lower position greater. -/
abbrev Rank := EReal ×ₗ ℕᵒᵈ

/-- The rank of key `k` at position `i`. -/
def rank (k : EReal) (i : ℕ) : Rank := toLex (k, OrderDual.toDual i)

/-- A rank's key. -/
def Rank.key (r : Rank) : EReal := (ofLex r).1

/-- A rank's position. -/
def Rank.pos (r : Rank) : ℕ := OrderDual.ofDual (ofLex r).2

/-- A rank is made of its key and its position. -/
theorem rank_key_pos (r : Rank) : rank r.key r.pos = r := rfl

/-- The order of ranks: by the key, and of equal keys the earlier position is the greater. -/
theorem Rank.lt_iff (r r' : Rank) : r < r' ↔ r.key < r'.key ∨ (r.key = r'.key ∧ r'.pos < r.pos) := Prod.Lex.lt_iff

/-- The ranks at different positions differ, whatever the keys. -/
theorem rank_position_injective {n : ℕ} (k : Fin n → EReal) : Function.Injective fun i : Fin n => rank (k i) i.val :=
  fun _ _ h => Fin.ext (congrArg Rank.pos h)

variable {s : Shape} {a : Fin s.rank} {p : Nat}

/-- Along the column, the vectors hold the entries `E`: keys, positions, and of each position the payload `f`. -/
structure Holds (C : Column s a p) (c : Carried Ideal s) (f : ℕ → EReal) (E : Fin (2 ^ p) → Rank) : Prop where
  key : ∀ i, c.key (C.col i) = (E i).key
  idx : ∀ i, c.idx (C.col i) = BitVec.ofNat 32 (E i).pos
  small : ∀ i, (E i).pos < 2 ^ 31
  pay : ∀ i, c.pay (C.col i) = f (E i).pos

/-- The signed comparison of two small numbers' words is the numbers' comparison. -/
theorem slt_ofNat {m n : ℕ} (hm : m < 2 ^ 31) (hn : n < 2 ^ 31) :
    IntOp.cmpi .slt (BitVec.ofNat 32 m) (BitVec.ofNat 32 n) = BitVec.ofBool (decide (m < n)) := by
  show BitVec.ofBool (BitVec.slt _ _) = _
  congr 1
  have e : ∀ {k : ℕ}, k < 2 ^ 31 → (BitVec.ofNat 32 k).toInt = k := fun {k} hk => by
    rw [BitVec.toInt_eq_toNat_cond, BitVec.toNat_ofNat, Nat.mod_eq_of_lt (by omega), if_pos (by omega)]
  rw [BitVec.slt_eq_decide, e hm, e hn]
  exact decide_eq_decide.mpr Int.ofNat_lt

/-- "The partner's key is greater, or equal with a lower position" is "the partner's rank is greater". -/
theorem beaten (r r' : Rank) (h : r.pos < 2 ^ 31) (h' : r'.pos < 2 ^ 31) :
    IntOp.ori (Ideal.cmp .ogt r'.key r.key) (IntOp.andi (Ideal.cmp .oeq r'.key r.key)
      (IntOp.cmpi .slt (BitVec.ofNat 32 r'.pos) (BitVec.ofNat 32 r.pos))) = BitVec.ofBool (decide (r < r')) := by
  rw [slt_ofNat h' h]
  show BitVec.ofBool (decide (r.key < r'.key)) ||| (BitVec.ofBool (decide (r'.key = r.key)) &&& BitVec.ofBool (decide (r'.pos < r.pos))) = _
  rw [ofBool_or_and]
  congr 1
  rw [Bool.eq_iff_iff]
  simp only [Bool.or_eq_true, Bool.and_eq_true, decide_eq_true_eq, Rank.lt_iff]
  rw [eq_comm]

/-- One stage, on the entries. -/
theorem Holds.stageAt {C : Column s a p} {c : Carried Ideal s} {f : ℕ → EReal} {E : Fin (2 ^ p) → Rank} (H : Holds C c f E)
    (h : s.Rotates a none) (pos : IVec s 32) (hpos : ∀ i, pos (C.col i) = BitVec.ofNat 32 i.val) (hp : p ≤ 31) {t d : ℕ} (hd : d < p)
    (hdt : d < t) (ht : t ≤ 31) :
    Holds C (stageAt p h pos c (t, d)) f (Network.apply (netOf p [(t, d)]) E) := by
  have ed : (BitVec.ofNat 32 (2 ^ d)).toNat = 2 ^ d := by
    rw [BitVec.toNat_ofNat]
    exact Nat.mod_eq_of_lt (Nat.pow_lt_pow_right (by decide) (by omega))
  have et : (BitVec.ofNat 32 (2 ^ t)).toNat = 2 ^ t := by
    rw [BitVec.toNat_ofNat]
    exact Nat.mod_eq_of_lt (Nat.pow_lt_pow_right (by decide) (by omega))
  have en : (BitVec.ofNat 32 (2 ^ p - 2 ^ d)).toNat = 2 ^ p - 2 ^ d := by
    rw [BitVec.toNat_ofNat]
    refine Nat.mod_eq_of_lt (Nat.lt_of_le_of_lt (Nat.sub_le _ _) (Nat.pow_lt_pow_right (by decide) (by omega)))
  -- the masks and the partner's elements
  have hup := upper_apply C (by omega) pos hpos _ ed
  have hasc := upper_apply C (by omega) pos hpos _ et
  have hother : ∀ {β : Type} (x : s.Idx → β) (i : Fin (2 ^ p)),
      other h (bitSet pos (BitVec.ofNat 32 (2 ^ d))) (BitVec.ofNat 32 (2 ^ d)) (BitVec.ofNat 32 (2 ^ p - 2 ^ d)) x (C.col i)
        = x (C.col (partner p d i)) := fun x i => printedPartner_apply C hd h _ hup _ _ ed en x i
  set low : Fin (2 ^ p) → Bool := fun i => decide (i.val &&& 2 ^ t = 0) with hlow
  -- what the network leaves, as the same select
  have hnet : ∀ i, Network.apply (netOf p [(t, d)]) E i
      = if decide (E i < E (partner p d i)) = upperXor d low i then E (partner p d i) else E i := by
    intro i
    have e : netOf p [(t, d)] = stage p d (upperXor d low) := by
      rw [stage_upperXor]
      simp only [netOf, List.flatMap_cons, List.flatMap_nil, List.append_nil]
      rfl
    have hkeep : ∀ j, upperXor d low (partner p d j) = !upperXor d low j := by
      intro j
      refine upperXor_partner hd low j ?_
      obtain ⟨l, rfl⟩ : ∃ l, t = l + 1 := ⟨t - 1, by omega⟩
      have := sizeClear_partner (l := l) hd (by omega) true j
      simpa only [beq_true] using this
    rw [e, apply_stage_select hd _ hkeep]
    rcases lt_trichotomy (E i) (E (partner p d i)) with hlt | heq | hgt
    · rw [decide_eq_true hlt, decide_eq_false (lt_asymm hlt)]
      cases upperXor d low i <;> rfl
    · rw [heq, ite_self]
    · rw [decide_eq_true hgt, decide_eq_false (lt_asymm hgt)]
      cases upperXor d low i <;> rfl
  -- the kernel's mask
  have htake : ∀ i, taken (bitSet pos (BitVec.ofNat 32 (2 ^ d))) (bitSet pos (BitVec.ofNat 32 (2 ^ t))) c.key
      (other h (bitSet pos (BitVec.ofNat 32 (2 ^ d))) (BitVec.ofNat 32 (2 ^ d)) (BitVec.ofNat 32 (2 ^ p - 2 ^ d)) c.key) c.idx
      (other h (bitSet pos (BitVec.ofNat 32 (2 ^ d))) (BitVec.ofNat 32 (2 ^ d)) (BitVec.ofNat 32 (2 ^ p - 2 ^ d)) c.idx) (C.col i)
        = BitVec.ofBool (decide (decide (E i < E (partner p d i)) = upperXor d low i)) := by
    intro i
    show IntOp.xori (IntOp.xori (IntOp.ori (Ideal.cmp .ogt (other h _ _ _ c.key (C.col i)) (c.key (C.col i)))
        (IntOp.andi (Ideal.cmp .oeq (other h _ _ _ c.key (C.col i)) (c.key (C.col i)))
          (IntOp.cmpi .slt (other h _ _ _ c.idx (C.col i)) (c.idx (C.col i)))))
      (IntOp.xori (IntOp.xori (bitSet pos _ (C.col i)) (bitSet pos _ (C.col i))) 1#1)) 1#1 = _
    rw [hother, hother, H.key, H.key, H.idx, H.idx, beaten _ _ (H.small _) (H.small _)]
    unfold bitSet
    rw [hup, hasc, ofBool_xor]
    have e : IntOp.xori (BitVec.ofBool (decide (i.val &&& 2 ^ d ≠ 0) ^^ decide (i.val &&& 2 ^ t ≠ 0))) 1#1
        = BitVec.ofBool (upperXor d low i) := by
      unfold upperXor
      rw [hlow]
      by_cases h1 : i.val &&& 2 ^ d = 0 <;> by_cases h2 : i.val &&& 2 ^ t = 0 <;> simp [h1, h2] <;> rfl
    rw [e, ofBool_xor_xor_one]
  refine ⟨fun i => ?_, fun i => ?_, fun i => ?_, fun i => ?_⟩
  · show Scalar.select (taken _ _ _ _ _ _ (C.col i)) (other h _ _ _ c.key (C.col i)) (c.key (C.col i)) = _
    rw [htake, hother, select_ofBool, hnet, H.key, H.key]
    by_cases hc : decide (E i < E (partner p d i)) = upperXor d low i <;> simp [hc]
  · show Scalar.select (taken _ _ _ _ _ _ (C.col i)) (other h _ _ _ c.idx (C.col i)) (c.idx (C.col i)) = _
    rw [htake, hother, select_ofBool, hnet, H.idx, H.idx]
    by_cases hc : decide (E i < E (partner p d i)) = upperXor d low i <;> simp [hc]
  · rw [hnet]
    split
    · exact H.small _
    · exact H.small _
  · show Scalar.select (taken _ _ _ _ _ _ (C.col i)) (other h _ _ _ c.pay (C.col i)) (c.pay (C.col i)) = _
    rw [htake, hother, select_ofBool, hnet, H.pay, H.pay]
    by_cases hc : decide (E i < E (partner p d i)) = upperXor d low i <;> simp [hc]

/-- A list of stages, on the entries. -/
theorem Holds.stages {C : Column s a p} {f : ℕ → EReal} (h : s.Rotates a none) (pos : IVec s 32)
    (hpos : ∀ i, pos (C.col i) = BitVec.ofNat 32 i.val) (hp : p ≤ 31) (l : List (ℕ × ℕ)) :
    ∀ (_ : ∀ t ∈ l, t.2 < p ∧ t.2 < t.1 ∧ t.1 ≤ 31) {c : Carried Ideal s} {E : Fin (2 ^ p) → Rank} (_ : Holds C c f E),
      Holds C (stages p h pos l c) f (Network.apply (netOf p l) E) := by
  induction l with
  | nil => exact fun _ _ _ H => H
  | cons t l ih =>
    intro hl c E H
    have e : netOf p (t :: l) = netOf p [t] ++ netOf p l := netOf_append p [t] l
    rw [e, Network.apply_append]
    have ht := hl t List.mem_cons_self
    exact ih (fun t' h' => hl t' (List.mem_cons_of_mem _ h')) (H.stageAt h pos hpos hp ht.1 ht.2.1 ht.2.2)

end Cert.TopK

end
-- ==== Proof.BlockFacts.lean ====
/-
  What one block stores, row by row: of the row's 1024 entries (softmax key, lane) the 256 greatest in descending order, and of each
  the payload of its lane.
-/
module

public import proofs.«01_k».proof.Proof.Block
public import proofs.«01_k».proof.Proof.StageFacts
public import Idealize.ShloMosaic.Lib.ValueIdxCore
public import Idealize.ShloMosaic.Lib.Pipeline.Value

@[expose] public section

noncomputable section

namespace Cert.TopK

open Idealize.ShloMosaic Idealize.ShloMosaic.SortNet Cert.KernelIdeal Cert.KernelIdeal.Gen

/-- Row `r` of a block of `2 ^ p` lanes. -/
def row (p : ℕ) (r : Fin 256) : Column (⟨2, ![256, 2 ^ p]⟩ : Shape) 1 p where
  col := fun i => ValueIdx.ix2 r i
  size_eq := rfl
  coord := fun _ => rfl
  other := fun i i' b hb => by
    match b, hb with
    | ⟨0, _⟩, _ => rfl
    | ⟨1, _⟩, hb => exact absurd rfl hb

/-- The row's entries, as ranks: each lane's key with the lane. -/
def rowRanks (key : S256x1024.Idx → EReal) (r : Fin 256) : Fin (2 ^ 10) → Rank := fun i => rank (key (ValueIdx.ix2 r i)) i.val

/-- The row's payloads by lane. -/
def rowPay (pay : S256x1024.Idx → EReal) (r : Fin 256) (n : ℕ) : EReal := if h : n < 1024 then pay (ValueIdx.ix2 r ⟨n, h⟩) else 0

/-- A row of the first and the last chunk, side by side, is what is kept of the row's 1024 entries. -/
theorem outerChunks_apply {α : Type} (x : S256x1024.Idx → α) (r : Fin 256) (i : Fin (2 ^ 9)) :
    outerChunks x ((row 9 r).col i) = keepOuter (fun j => x ((row 10 r).col j)) i := by
  have hi : i.val < 512 := i.isLt
  unfold outerChunks keepOuter
  by_cases h : i.val < 256
  · rw [concatenate_pair_apply_left (s₁ := S256x256) (s₂ := S256x256) (t := S256x512) 1 _ _ _ _ rfl (ValueIdx.ix2 r ⟨i.val, h⟩) (by
      intro b; match b with | ⟨0, _⟩ => rfl | ⟨1, _⟩ => rfl)]
    refine extractStridedSlice_apply _ _ _ _ _ ?_
    intro b
    match b with
    | ⟨0, _⟩ => exact (Nat.zero_add _).symm
    | ⟨1, _⟩ => exact (if_pos h).trans (Nat.zero_add _).symm
  · rw [concatenate_pair_apply_right (s₁ := S256x256) (s₂ := S256x256) (t := S256x512) 1 _ _ _ _ rfl rfl (ValueIdx.ix2 r ⟨i.val - 256, by omega⟩) (by
      intro b hb; match b, hb with | ⟨0, _⟩, _ => rfl | ⟨1, _⟩, hb => exact absurd rfl hb) (by
      show i.val - 256 + 256 = i.val; omega)]
    refine extractStridedSlice_apply _ _ _ _ _ ?_
    intro b
    match b with
    | ⟨0, _⟩ => exact (Nat.zero_add _).symm
    | ⟨1, _⟩ => exact (if_neg h).trans (by show i.val + 512 = 768 + (i.val - 256); omega)

/-- A row of the first chunk is what is kept of the row's 512 entries. -/
theorem firstChunk_apply {α : Type} (x : S256x512.Idx → α) (r : Fin 256) (i : Fin (2 ^ 8)) :
    firstChunk x ((row 8 r).col i) = keepFirst (fun j => x ((row 9 r).col j)) i := by
  unfold firstChunk keepFirst
  refine extractStridedSlice_apply _ _ _ _ _ ?_
  intro b
  match b with
  | ⟨0, _⟩ => exact (Nat.zero_add _).symm
  | ⟨1, _⟩ => exact (Nat.zero_add _).symm

variable {r : Fin 256} {f : ℕ → EReal}

/-- Where a row's 1024 lanes hold the entries `E`, the 512 lanes kept hold the entries kept. -/
theorem Holds.outer {c : Carried Ideal S256x1024} {E : Fin (2 ^ 10) → Rank} (H : Holds (row 10 r) c f E) :
    Holds (row 9 r) (outer c) f (keepOuter E) where
  key := fun i => (outerChunks_apply c.key r i).trans (H.key _)
  idx := fun i => (outerChunks_apply c.idx r i).trans (H.idx _)
  small := fun i => H.small _
  pay := fun i => (outerChunks_apply c.pay r i).trans (H.pay _)

/-- Where a row's 512 lanes hold the entries `E`, the 256 lanes kept hold the entries kept. -/
theorem Holds.first {c : Carried Ideal S256x512} {E : Fin (2 ^ 9) → Rank} (H : Holds (row 9 r) c f E) :
    Holds (row 8 r) (first c) f (keepFirst E) where
  key := fun i => (firstChunk_apply c.key r i).trans (H.key _)
  idx := fun i => (firstChunk_apply c.idx r i).trans (H.idx _)
  small := fun i => H.small _
  pay := fun i => (firstChunk_apply c.pay r i).trans (H.pay _)

/-- Before the first stage, every lane holds its own entry. -/
theorem holds_start (key pay : FVec Ideal S256x1024 .f32) (r : Fin 256) :
    Holds (row 10 r) ⟨key, lanes1024, pay⟩ (rowPay pay r) (rowRanks key r) where
  key := fun _ => rfl
  idx := fun i => (row 10 r).iota_apply .tc iota_S256x1024_d1_w32 i
  small := fun i => Nat.lt_trans (show i.val < 2 ^ 10 from i.isLt) (by decide)
  pay := fun i => by
    have h : (rowRanks key r i).pos < 1024 := i.isLt
    unfold rowPay
    rw [dif_pos h]
    rfl

/-- After the last stage, the row's selection. -/
theorem holds_end (key pay : FVec Ideal S256x1024 .f32) (r : Fin 256) :
    Holds (row 8 r) (on256 (on512 (on1024 key pay))) (rowPay pay r) (select256 (rowRanks key r)) := by
  have a : Holds (row 10 r) (on1024 key pay) _ _ :=
    Holds.stages rotates_S256x1024_d1 lanes1024 (fun i => (row 10 r).iota_apply .tc iota_S256x1024_d1_w32 i) (by decide) (levelsStages 8 ++ [(9, 8)])
      (by decide +kernel) (holds_start key pay r)
  have b : Holds (row 9 r) (on512 (on1024 key pay)) _ _ :=
    Holds.stages rotates_S256x512_d1 lanes512 (fun i => (row 9 r).iota_apply .tc iota_S256x512_d1_w32 i) (by decide) (levelStages 7 ++ [(9, 8)])
      (by decide +kernel) a.outer
  exact Holds.stages rotates_S256x256_d1 lanes256 (fun i => (row 8 r).iota_apply .tc iota_S256x256_d1_w32 i) (by decide) (levelStages 7)
      (by decide +kernel) b.first

/-- WHAT A BLOCK STORES at row `r`, place `i`: the payload of the row at the position of the row's `i`-th greatest entry. -/
theorem stored_apply (key pay : FVec Ideal S256x1024 .f32) (r i : Fin 256) :
    stored key pay (ValueIdx.ix3 0 r i) = rowPay pay r (select256 (rowRanks key r) i).pos := by
  refine Eq.trans ?_ ((holds_end key pay r).pay i)
  unfold stored
  refine (shapeCast_addUnit_apply (n := 2) ![256, 256] _ _ _).trans (congrArg _ (funext fun b => ?_))
  match b with
  | ⟨0, _⟩ => rfl
  | ⟨1, _⟩ => rfl

end Cert.TopK

end
-- ==== Proof.Softmax.lean ====
/-
  The key of the selection, in plain mathematics: the softmax over the 1024 lanes of `x(n, ·, d) · W(e, ·) + b(e)`.
-/
module

public import Idealize.ShloMosaic.PureOps.Ideal.Laws

@[expose] public section

noncomputable section

namespace Cert.TopK

open Idealize.ShloMosaic

/-- The greatest of a row of logits (from −∞). -/
def rowMax (l : Fin 1024 → EReal) : EReal := Finset.univ.fold max (Ideal.ofBits FTy.f32 0xFF800000#32) l

/-- The softmax of a row of logits at lane `e`. -/
def softmax (l : Fin 1024 → EReal) (e : Fin 1024) : EReal :=
  Ideal.div (Ideal.exp (l e - rowMax l)) (∑ e', Ideal.exp (l e' - rowMax l))

/-- A row's logits: the products of the row's 1024 values `v` with the rows of the weight, and the bias. -/
def logits (v : Fin 1024 → EReal) (W : Fin 1024 → Fin 1024 → EReal) (b : Fin 1024 → EReal) (e : Fin 1024) : EReal :=
  ∑ s, v s * W e s + b e

end Cert.TopK

end
-- ==== Proof.Keys.lean ====
/-
  The keys of one block: lane `e` of row `r` holds the softmax of the row's logits.
-/
module

public import proofs.«01_k».proof.Proof.Block
public import proofs.«01_k».proof.Proof.Softmax
public import Idealize.ShloMosaic.Lib.Pointwise
public import Idealize.ShloMosaic.Lib.ValueIdxCore

@[expose] public section

noncomputable section

namespace Cert.TopK

open Idealize.ShloMosaic Cert.KernelIdeal Cert.KernelIdeal.Gen

/-- The key at row `r`, lane `e` of a block, of the block's operands. -/
theorem keys_apply (v0 : Vec Ideal S1x1024x256 .f32) (v2 : Vec Ideal S1024x1024 .f32) (v4 : Vec Ideal S1x1024 .f32) (r : Fin 256)
    (e : Fin 1024) :
    keys v0 v2 v4 (ValueIdx.ix2 r e)
      = softmax (logits (fun s => v0 (ValueIdx.ix3 0 s r)) (fun e s => v2 (ValueIdx.ix2 e s)) fun e => v4 (ValueIdx.ix2 0 e)) e := by
  unfold keys k0_pay2
  pointwise
  rfl

end Cert.TopK

end
-- ==== Proof.Order.lean ====
/-
  The reference's order and the network's: the stable sort that puts the greater key first (equal keys in the order of their positions)
  puts at place `i` the position of the `i`-th greatest (key, position) entry.
-/
module

public import proofs.«01_k».proof.Proof.Net
public import proofs.«01_k».proof.Proof.StageFacts
public import Idealize.ShloMosaic.Lib.SortNet.Positions
public import Idealize.ShloMosaic.Lib.SortFacts

@[expose] public section

noncomputable section

namespace Cert.TopK

open Idealize.ShloMosaic Idealize.ShloMosaic.SortNet

/-- Inserting reads the order only between what is inserted and what is there. -/
theorem insertBefore_congr {ι : Type} {B B' : ι → ι → Bool} (a : ι) (l : List ι) (h : ∀ b ∈ l, B b a = B' b a) :
    insertBefore B a l = insertBefore B' a l := by
  induction l with
  | nil => rfl
  | cons b l ih =>
    unfold insertBefore
    rw [h b (by simp), ih fun c hc => h c (by simp [hc])]

/-- On an increasing list, the stable sort under an order that leaves ties open is the sort that breaks them by position. -/
theorem stableSort_ties {n : ℕ} {B B' : Fin n → Fin n → Bool} (h : ∀ a b, a < b → B b a = B' b a) (l : List (Fin n))
    (hl : l.Pairwise (· < ·)) : stableSort B l = stableSort B' l := by
  induction l with
  | nil => rfl
  | cons a l ih =>
    rw [List.pairwise_cons] at hl
    unfold stableSort
    rw [ih hl.2]
    exact insertBefore_congr a _ fun b hb => h a b (hl.1 b ((perm_stableSort B' l).mem_iff.mp hb))

/-- The key alone, greater first. -/
def keyFirst {n : ℕ} (k : Fin n → EReal) (i j : Fin n) : Bool := decide (k j < k i)

/-- The stable sort by the key alone and the sort by the rank put the same position at each place. -/
theorem sortedFrom_keyFirst {n : ℕ} (k : Fin n → EReal) (i : Fin n) :
    sortedFrom (keyFirst k) i = sortedFrom (greaterFirst fun i => rank (k i) i.val) i := by
  have h : sortPositions n (keyFirst k) = sortPositions n (greaterFirst fun i => rank (k i) i.val) := by
    refine stableSort_ties (fun a b hab => ?_) _ (List.pairwise_lt_finRange n)
    unfold keyFirst greaterFirst
    rw [decide_eq_decide, Rank.lt_iff]
    show _ ↔ k a < k b ∨ (k a = k b ∧ _)
    constructor
    · exact Or.inl
    · rintro (h | ⟨-, h⟩)
      · exact h
      · exact absurd h (by first | exact not_lt.mpr (Nat.le_of_lt hab) | exact lt_asymm hab)
  unfold sortedFrom
  rw [List.get_eq_getElem, List.get_eq_getElem]
  exact List.getElem_of_eq h _

/-- Where the `m` greatest entries are listed, the `i`-th has the position the reference's sort puts at place `i`. -/
theorem position_of_topList {n m : ℕ} (k : Fin n → EReal) (w : Fin m → Rank)
    (hw : List.ofFn w = topList m (List.ofFn fun i => rank (k i) i.val)) (i : Fin m) (j : Fin n) (hj : j.val = i.val) :
    (w i).pos = (sortedFrom (keyFirst k) j).val := by
  have h := entry_sortedFrom_eq_topList (fun i => rank (k i) i.val) (rank_position_injective k) m j (by rw [hj]; exact i.isLt)
  rw [← hw, hj, List.getElem?_ofFn, dif_pos i.isLt, ← sortedFrom_keyFirst] at h
  exact (congrArg Rank.pos (Option.some.inj h)).symm

/-- The place `i < 256` of the reference's sort, and the network's `i`-th entry: the same position. -/
theorem select256_pos (k : Fin (2 ^ 10) → EReal) (i : Fin (2 ^ 8)) (j : Fin (2 ^ 10)) (hj : j.val = i.val) :
    (select256 (fun i => rank (k i) i.val) i).pos = (sortedFrom (keyFirst k) j).val :=
  position_of_topList k _ (ofFn_select256 _) i j hj

end Cert.TopK

end
-- ==== Proof.BlockValue.lean ====
/-
  What one block stores, of its four operands: of the payload's row the elements at the positions of the row's greatest softmax keys.
-/
module

public import proofs.«01_k».proof.Proof.BlockFacts
public import proofs.«01_k».proof.Proof.Keys
public import proofs.«01_k».proof.Proof.Order

@[expose] public section

noncomputable section

namespace Cert.TopK

open Idealize.ShloMosaic Idealize.ShloMosaic.SortNet Cert.KernelIdeal Cert.KernelIdeal.Gen

/-- The lane that the stable descending sort of a row's keys puts at place `i < 256`. -/
def lane (k : Fin 1024 → EReal) (i : Fin 256) : Fin 1024 := sortedFrom (keyFirst k) (i.castLE (by decide : 256 ≤ 1024))

/-- The payload the body loads is its fourth operand's block without the unit axis. -/
theorem payload_apply (v3 : Vec Ideal S1x256x1024 .f32) (r : Fin 256) (e : Fin 1024) :
    k0_pay3 v3 (ValueIdx.ix2 r e) = v3 (ValueIdx.ix3 0 r e) := by
  unfold k0_pay3
  pointwise
  rfl

/-- A row's payload at a lane below 1024. -/
theorem rowPay_lane (pay : S256x1024.Idx → EReal) (r : Fin 256) (e : Fin 1024) : rowPay pay r e.val = pay (ValueIdx.ix2 r e) :=
  dif_pos e.isLt

/-- The network's `i`-th entry of a row is at the lane that the sort of the row's keys puts at place `i`. -/
theorem row_lane (key : S256x1024.Idx → EReal) (r i : Fin 256) :
    (select256 (rowRanks key r) i).pos = (lane (fun e => key (ValueIdx.ix2 r e)) i).val :=
  select256_pos (fun e => key (ValueIdx.ix2 r e)) i (i.castLE (by decide : 256 ≤ 1024)) rfl

/-- THE BLOCK'S VALUE at row `r`, place `i`. -/
theorem block_apply (v0 : Vec Ideal S1x1024x256 .f32) (v1 : Vec Ideal S1024x1024 .f32) (v2 : Vec Ideal S1x1024 .f32)
    (v3 : Vec Ideal S1x256x1024 .f32) (r i : Fin 256) :
    stored (keys v0 v1 v2) (k0_pay3 v3) (ValueIdx.ix3 0 r i)
      = v3 (ValueIdx.ix3 0 r (lane (softmax (logits (fun s => v0 (ValueIdx.ix3 0 s r)) (fun e s => v1 (ValueIdx.ix2 e s))
          fun e => v2 (ValueIdx.ix2 0 e))) i)) := by
  have hk : (fun e => keys v0 v1 v2 (ValueIdx.ix2 r e)) = softmax (logits (fun s => v0 (ValueIdx.ix3 0 s r))
      (fun e s => v1 (ValueIdx.ix2 e s)) fun e => v2 (ValueIdx.ix2 0 e)) := funext fun e => keys_apply v0 v1 v2 r e
  rw [stored_apply, row_lane, rowPay_lane, payload_apply, hk]

end Cert.TopK

end
-- ==== Proof.KernelValue.lean ====
/-
  The kernel's result array: every grid point's input blocks at coordinates, the output window's array, and the transposed result.
-/
module

public import proofs.«01_k».proof.Proof.Gen.KernelIdeal.Frame
public import proofs.«01_k».proof.Proof.Block
public import proofs.«01_k».proof.Proof.BlockValue
public import Idealize.ShloMosaic.Lib.Pipeline.ValueKit
public import Idealize.ShloMosaic.Lib.Claim

@[expose] public section

noncomputable section

namespace Cert.TopK

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg) (c : Dev nD) (t : Fin cfg0.N)

/-! ## The blocks of a grid point -/

/-- Every window's block index at a point: the batch entry and the tile of rows are the point's coordinates. -/
theorem idx : ∀ t : Fin cfg0.N, win0_0.index t = ![(grid0.coords t 0).val, 0, (grid0.coords t 1).val]
    ∧ win0_1.index t = ![0, 0] ∧ win0_2.index t = ![0, 0]
    ∧ win0_3.index t = ![(grid0.coords t 0).val, (grid0.coords t 1).val, 0]
    ∧ win0_4.index t = ![(grid0.coords t 0).val, (grid0.coords t 1).val, 0] :=
  (by decide +kernel : ∀ t : Fin grid0.N, _)

/-- The batch entry of a point. -/
def slab (t : Fin cfg0.N) : Fin 32 := ⟨(grid0.coords t 0).val, (grid0.coords t 0).isLt⟩

/-- The array's row that row `r` of the point's tile is. -/
def line (t : Fin cfg0.N) (r : Fin 256) : Fin 1024 := ⟨(grid0.coords t 1).val * 256 + r.val, by
  have h : (grid0.coords t 1).val < 4 := (grid0.coords t 1).isLt
  omega⟩

/-- The first operand's block: the tile's columns of the argument. -/
theorem iblk0 (s : Fin 1024) (r : Fin 256) :
    iblk m c 0 t (ValueIdx.ix3 0 s r) = m ((c.tc : Thread nD τ).loc main_arg0) (ValueIdx.ix3 (slab t) s (line t r)) := by
  blk_ext! [iblk, V, (idx t).1, slab, line]

/-- The weights, whole. -/
theorem iblk1 (e s : Fin 1024) : iblk m c 1 t (ValueIdx.ix2 e s) = m ((c.tc : Thread nD τ).loc main_arg1) (ValueIdx.ix2 e s) := by
  blk_ext! [iblk, V, (idx t).2.1]

/-- The bias with a unit axis before it, which the line before the region makes. -/
theorem V_main_v0 : V m c main_v0 = shapeCast S1x1024 (m ((c.tc : Thread nD τ).loc main_arg2)) shapeCasts_S1024_S1x1024 := by
  unfold V V0
  simp only [List.flatten_cons, List.flatten_nil, List.append_nil]
  after_results_simp
  rfl

/-- The third operand's block is that array, whole. -/
theorem iblk2_eq (e : Fin 1024) : iblk m c 2 t (ValueIdx.ix2 0 e) = V m c main_v0 (ValueIdx.ix2 0 e) := by
  blk_ext [iblk, (idx t).2.2.1]

/-- The bias, whole. -/
theorem iblk2 (e : Fin 1024) : iblk m c 2 t (ValueIdx.ix2 0 e) = m ((c.tc : Thread nD τ).loc main_arg2) (ValueIdx.ix1 e) := by
  rw [iblk2_eq, V_main_v0]
  pointwise
  rfl

/-- The fourth operand's block: the tile's rows of the argument. -/
theorem iblk3 (r : Fin 256) (e : Fin 1024) :
    iblk m c 3 t (ValueIdx.ix3 0 r e) = m ((c.tc : Thread nD τ).loc main_arg0) (ValueIdx.ix3 (slab t) (line t r) e) := by
  blk_ext! [iblk, V, (idx t).2.2.2.1, slab, line]

/-! ## The output window's array -/

/-- The point leaves in the output's block what the network stores of its operands' blocks. -/
theorem outsAt_eq : outsAt0 m c t = stored (keys (iblk m c 0 t) (iblk m c 1 t) (iblk m c 2 t)) (k0_pay3 (iblk m c 3 t)) := by
  unfold outsAt0 out0_A_4
  rw [pieces_eq]
  frame_out

/-- The lane of row `d` of batch entry `n` that the stable descending sort of its softmax keys puts at place `i`. -/
def laneOf (x : Vec Ideal S32x1024x1024 .f32) (W : Vec Ideal S1024x1024 .f32) (b : Vec Ideal S1024 .f32)
    (n : Fin 32) (d : Fin 1024) (i : Fin 256) : Fin 1024 :=
  lane (softmax (logits (fun s => x (ValueIdx.ix3 n s d)) (fun e s => W (ValueIdx.ix2 e s)) fun e => b (ValueIdx.ix1 e))) i

/-- What the output window's array is shown to hold. -/
def selected (x : Vec Ideal S32x1024x1024 .f32) (W : Vec Ideal S1024x1024 .f32) (b : Vec Ideal S1024 .f32) :
    Vec Ideal S32x1024x256 .f32 := fun j => x (ValueIdx.ix3 (j 0) (j 1) (laneOf x W b (j 0) (j 1) (j 2)))

/-- The point's output block at row `r`, place `i`: the array's element at the row and place the block covers. -/
theorem outsAt_apply (r i : Fin 256) : outsAt0 m c t (ValueIdx.ix3 0 r i)
    = selected (m ((c.tc : Thread nD τ).loc main_arg0)) (m ((c.tc : Thread nD τ).loc main_arg1)) (m ((c.tc : Thread nD τ).loc main_arg2))
        (ValueIdx.ix3 (slab t) (line t r) i) := by
  rw [outsAt_eq, block_apply, iblk3]
  simp only [iblk0, iblk1, iblk2]
  rfl

/-- THE KERNEL'S ARRAY: the blocks cover it. -/
theorem array_eq : (dats m 0 c).arrAt 4 cfg0.N
    = selected (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  have hy : y = ValueIdx.ix3 (0 : Fin 1) (y 1) (y 2) := by
    blk_ext [slab]
  have he : ((View.whole main_v1).slice (win0_4.rect t)).emb y = ValueIdx.ix3 (slab t) (line t (y 1)) (y 2) := by
    blk_ext [(idx t).2.2.2.2, slab, line]
  exact (congrArg (outsAt0 m c t) hy).trans ((outsAt_apply m c t (y 1) (y 2)).trans (congrArg _ he.symm))

/-! ## The result -/

/-- The line after the region transposes the array. -/
theorem W_main_v2 : Pipeline.afterTail₀ cfgs (dats m) 0 (V0 m) [hostOps1] c main_v2
    = transpose S32x256x1024 [0, 2, 1] ((dats m 0 c).arrAt 4 cfg0.N) transposes_S32x1024x256_S32x256x1024_0_2_1 := by
  unfold Pipeline.afterTail₀
  simp only [List.flatten_cons, List.flatten_nil, List.append_nil]
  after_results_simp
  exact congrArg (transpose S32x256x1024 [0, 2, 1] · transposes_S32x1024x256_S32x256x1024_0_2_1)
    ((dats m 0 c).withArrays_arrAt launch₀0.sharedIn (V0 m c) (A_eq m c) 4)

/-- The kernel's result at batch entry `n`, place `i`, row `d`. -/
theorem W_main_v2_apply (n : Fin 32) (i : Fin 256) (d : Fin 1024) :
    Pipeline.afterTail₀ cfgs (dats m) 0 (V0 m) [hostOps1] c main_v2 (ValueIdx.ix3 n i d)
      = m ((c.tc : Thread nD τ).loc main_arg0) (ValueIdx.ix3 n d (laneOf (m ((c.tc : Thread nD τ).loc main_arg0))
          (m ((c.tc : Thread nD τ).loc main_arg1)) (m ((c.tc : Thread nD τ).loc main_arg2)) n d i)) := by
  rw [W_main_v2, array_eq]
  pointwise
  rfl

/-- THE KERNEL'S RUN: the result as the line after the region leaves it, the arguments unchanged. -/
theorem kernel_run : θ_run defs (onTc (τ := τ) (main (F := Ideal))) ⟨m, fun _ => 0, ρ⟩ (fun r => ∀ c : Dev nD,
    r.2.mem ((c.tc : Thread nD τ).loc main_v2) = Pipeline.afterTail₀ cfgs (dats m) 0 (V0 m) [hostOps1] c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).2 main_v2 (Pipeline.mem_restRefs_of main_v2 (by decide) (by decide)), h.2 c⟩)
    (θ_run_and (run_main m ρ) (unchanged m ρ))

end Cert.TopK

end
-- ==== Proof.HostKeys.lean ====
/-
  The reference's keys: its logits and its softmax under names of their own, each read at an index.
-/
module

public import proofs.«01_k».proof.Proof.Softmax
public import proofs.«01_k».proof.Proof.Gen.ReferenceIdeal.Run
public import Idealize.ShloMosaic.Lib.Pointwise

@[expose] public section

noncomputable section

namespace Cert.TopK

open Idealize.ShloMosaic Cert.ReferenceIdeal Cert.ReferenceIdeal.Gen Cert.ReferenceIdeal.Value Idealize.ShloMosaic.TcCoe

/-- The reference's logits array. -/
def hostLogits (x : FVec Ideal S32x1024x1024 .f32) (W : FVec Ideal S1024x1024 .f32) (b : FVec Ideal S1024 .f32) :
    FVec Ideal S32x1024x1024 .f32 :=
  addf (Host.dotGeneral dot_S32x1024x1024_S1024x1024_S32x1024x1024_2_1_01_0_n_n none
      (transpose S32x1024x1024 [0, 2, 1] x transposes_S32x1024x1024_S32x1024x1024_0_2_1) W)
    (broadcastInDim S32x1024x1024 ![0, 1, 2] bcast_S1x1x1024_S32x1024x1024_0_1_2 (broadcastInDim S1x1x1024 ![2] bcast_S1024_S1x1x1024_2 b))

/-- The greatest logit of each row. -/
def hostRowMax (l : FVec Ideal S32x1024x1024 .f32) : FVec Ideal S32x1024 .f32 :=
  maximumf (broadcastInDim S32x1024 ![] bcast_S_S32x1024 (constant S_ .f32 0xFF800000#32))
    (Host.reduce FloatOps.maximumf l (constant S_ .f32 0xFF800000#32) reducesTo_S32x1024x1024_S32x1024_d2 h_S_)

/-- The greatest logit of each row, along the lanes. -/
def hostMax (l : FVec Ideal S32x1024x1024 .f32) : FVec Ideal S32x1024x1024 .f32 :=
  broadcastInDim S32x1024x1024 ![0, 1, 2] bcast_S32x1024x1_S32x1024x1024_0_1_2
    (broadcastInDim S32x1024x1 ![0, 1] bcast_S32x1024_S32x1024x1_0_1 (hostRowMax l))

/-- The exponentials, divided by their sum along the lanes. -/
def hostShare (p : FVec Ideal S32x1024x1024 .f32) : FVec Ideal S32x1024x1024 .f32 :=
  Host.divf p (broadcastInDim S32x1024x1024 ![0, 1, 2] bcast_S32x1024x1_S32x1024x1024_0_1_2 (broadcastInDim S32x1024x1 ![0, 1]
    bcast_S32x1024_S32x1024x1_0_1 (Host.reduceAdd p (constant S_ .f32 0x00000000#32) reducesTo_S32x1024x1024_S32x1024_d2 h_S_)))

/-- The reference's softmax of a logits array. -/
def hostSoftmax (l : FVec Ideal S32x1024x1024 .f32) : FVec Ideal S32x1024x1024 .f32 := hostShare (Host.exp (subf l (hostMax l)))

/-- The reference's logits at an index. -/
theorem hostLogits_apply (x : FVec Ideal S32x1024x1024 .f32) (W : FVec Ideal S1024x1024 .f32) (b : FVec Ideal S1024 .f32)
    (n : Fin 32) (d e : Fin 1024) :
    hostLogits x W b (ix3 n d e) = logits (fun s => x (ix3 n s d)) (fun e s => W (ix2 e s)) (fun e => b (ix1 e)) e := by
  unfold hostLogits
  pointwise
  rfl

/-- The greatest of a row from −∞ is not raised by −∞. -/
theorem max_rowMax (l : Fin 1024 → EReal) : max (Ideal.ofBits FTy.f32 0xFF800000#32) (rowMax l) = rowMax l :=
  max_eq_right (Finset.le_fold_max _ |>.mpr (Or.inl le_rfl))

/-- The reduction by the maximum, at a row: the row's greatest logit. -/
theorem reduceMax_apply (l : FVec Ideal S32x1024x1024 .f32) (n : Fin 32) (d : Fin 1024) :
    Host.reduce (FloatOps.maximumf (F := Ideal) (φ := .f32)) l (constant S_ .f32 0xFF800000#32) reducesTo_S32x1024x1024_S32x1024_d2 h_S_ (ix2 n d)
      = rowMax fun e => l (ix3 n d e) := by
  have hR : S32x1024x1024.Reduces [2] S32x1024 := by decide
  have e : l ∘ hR.lift (ix2 n d) = fun e => l (ix3 n d e) := by
    funext e
    refine congrArg l (funext fun a => ?_)
    match a with
    | ⟨0, _⟩ => rfl
    | ⟨1, _⟩ => rfl
    | ⟨2, _⟩ => rfl
  rw [Host.reduce_eq_fold_single _ l _ _ hR, e]
  rfl

/-- The greatest logit of a row. -/
theorem hostRowMax_apply (l : FVec Ideal S32x1024x1024 .f32) (n : Fin 32) (d : Fin 1024) :
    hostRowMax l (ix2 n d) = rowMax fun e => l (ix3 n d e) := by
  have h (A : FVec Ideal S32x1024 .f32) (j : S32x1024.Idx) :
      maximumf (broadcastInDim S32x1024 ![] bcast_S_S32x1024 (constant S_ .f32 0xFF800000#32)) A j
        = max (Ideal.ofBits FTy.f32 0xFF800000#32) (A j) := by
    pointwise
  unfold hostRowMax
  rw [h, reduceMax_apply, max_rowMax]

/-- It is the same along the row's lanes. -/
theorem hostMax_apply (l : FVec Ideal S32x1024x1024 .f32) (n : Fin 32) (d e : Fin 1024) :
    hostMax l (ix3 n d e) = rowMax fun e => l (ix3 n d e) := by
  rw [← hostRowMax_apply]
  unfold hostMax
  pointwise

/-- A row's entry divided by the row's sum. -/
theorem hostShare_apply (p : FVec Ideal S32x1024x1024 .f32) (n : Fin 32) (d e : Fin 1024) :
    hostShare p (ix3 n d e) = Ideal.div (p (ix3 n d e)) (∑ e', p (ix3 n d e')) := by
  unfold hostShare
  pointwise

/-- The reference's softmax at an index is the row's softmax. -/
theorem hostSoftmax_apply (l : FVec Ideal S32x1024x1024 .f32) (n : Fin 32) (d e : Fin 1024) :
    hostSoftmax l (ix3 n d e) = softmax (fun e => l (ix3 n d e)) e := by
  have h (e : Fin 1024) : (Host.exp (subf l (hostMax l)) : FVec Ideal S32x1024x1024 .f32) (ix3 n d e)
      = Ideal.exp (l (ix3 n d e) - rowMax fun e => l (ix3 n d e)) := by
    rw [← hostMax_apply l n d e]
    rfl
  unfold hostSoftmax softmax
  rw [hostShare_apply]
  simp only [h]

end Cert.TopK

end
-- ==== Proof.Reference.lean ====
/-
  What the reference computes: its selection and its gather under names of their own, each read at an index, down to the
  result's element as one element of the argument.
-/
module

public import proofs.«01_k».proof.Proof.HostKeys
public import proofs.«01_k».proof.Proof.Order

@[expose] public section

noncomputable section

namespace Cert.TopK

open Idealize.ShloMosaic Idealize.ShloMosaic.SortNet Cert.ReferenceIdeal Cert.ReferenceIdeal.Gen Cert.ReferenceIdeal.Value Idealize.ShloMosaic.TcCoe

/-- The reference's indices of the greatest 256 of each row. -/
def hostIndices (p : FVec Ideal S32x1024x1024 .f32) : IVec S32x1024x256 32 :=
  (Host.topK S32x1024x256 2 (FloatOps.cmpfTotal .gt) p sliceFits_S32x1024x1024_S32x1024x256).2

/-- The indices as the gather takes them: a negative one counted from the end. -/
def hostWrapped (k : IVec S32x1024x256 32) : IVec S32x1024x256x1 32 :=
  shapeCast _ (select (cmpi .slt k (broadcastInDim S32x1024x256 ![] bcast_S_S32x1024x256 (constantI S_ 32 0#32)))
    (addi k (broadcastInDim S32x1024x256 ![] bcast_S_S32x1024x256 (constantI S_ 32 1024#32))) k) shapeCasts_S32x1024x256_S32x1024x256x1

/-- The gather of `x` along the lanes, not a number where an index is out of range. -/
def hostTake (x : FVec Ideal S32x1024x1024 .f32) (k : IVec S32x1024x256x1 32) : FVec Ideal S32x1024x256 .f32 :=
  select (Host.reduce IntOp.andi (andi
      (cmpi .sge k (broadcastInDim S32x1024x256x1 ![] bcast_S_S32x1024x256x1 (constantI S_ 32 0#32)))
      (cmpi .sle k (broadcastInDim S32x1024x256x1 ![0, 1, 2, 3] bcast_S1x1x1x1_S32x1024x256x1_0_1_2_3
        (broadcastInDim S1x1x1x1 ![3] bcast_S1_S1x1x1x1_3 (constantI S1 32 1023#32)))))
      (constantI S_ 1 1#1) reducesTo_S32x1024x256x1_S32x1024x256_d3 h_S_)
    (Host.gather gather_S32x1024x1024_S32x1024x256x1_S32x1024x256_n_2_01_01_2_3_111 x k)
    (broadcastInDim S32x1024x256 ![] bcast_S_S32x1024x256 (constant S_ .f32 0x7FC00000#32))

/-- The reference's result, by these names. -/
theorem res_eq (m : (ℓ : Loc nD τ sig) → Buf (Elt Ideal) ℓ) (c : Dev nD) :
    res_main_v17 m c = transpose S32x256x1024 [0, 2, 1] (hostTake (m ((c.tc : Thread nD τ).loc main_arg0)) (hostWrapped (hostIndices (hostSoftmax
      (hostLogits (m ((c.tc : Thread nD τ).loc main_arg0)) (m ((c.tc : Thread nD τ).loc main_arg1)) (m ((c.tc : Thread nD τ).loc main_arg2))))))) transposes_S32x1024x256_S32x256x1024_0_2_1 := rfl

/-- The second of two arrays sorted together, at an index: its own element at the position the sort puts there. -/
theorem sort2_snd {s : Shape} (d : Fin s.rank) {α β : Type} (cmp : α × β → α × β → BitVec 1) (x : s.Idx → α) (y : s.Idx → β) (j : s.Idx) :
    (Host.sort2 s d.val cmp x y).2 j = y (j.along d (sortedFrom (fun k k' =>
      cmp (x (j.along d k), y (j.along d k)) (x (j.along d k'), y (j.along d k')) == 1#1) (j d))) := by
  unfold Host.sort2
  rw [dif_pos d.isLt]

/-- The row's index with its lane replaced. -/
theorem along_lane (n : Fin 32) (d j k : Fin 1024) : (ix3 n d j : S32x1024x1024.Idx).along 2 k = ix3 n d k := by
  funext a
  match a with
  | ⟨0, _⟩ => rfl
  | ⟨1, _⟩ => rfl
  | ⟨2, _⟩ => rfl

/-- The reference's comparison along a row: the key alone, greater first. -/
theorem before_lane (q : FVec Ideal S32x1024x1024 .f32) (n : Fin 32) (d j : Fin 1024) :
    (fun k k' : Fin 1024 => FloatOps.cmpfTotal .gt (q ((ix3 n d j : S32x1024x1024.Idx).along 2 k))
      (q ((ix3 n d j : S32x1024x1024.Idx).along 2 k')) == 1#1) = keyFirst fun e => q (ix3 n d e) := by
  funext k k'
  rw [along_lane, along_lane]
  show (BitVec.ofBool (decide (q (ix3 n d k') < q (ix3 n d k))) == 1#1) = decide _
  cases decide (q (ix3 n d k') < q (ix3 n d k)) <;> rfl

/-- The place `i`'s index: the position the stable descending sort of the row's keys puts there. -/
theorem hostIndices_apply (q : FVec Ideal S32x1024x1024 .f32) (n : Fin 32) (d : Fin 1024) (i : Fin 256) :
    hostIndices q (ix3 n d i)
      = BitVec.ofNat 32 (sortedFrom (keyFirst fun e => q (ix3 n d e)) (i.castLE (by decide : 256 ≤ 1024))).val := by
  unfold hostIndices Host.topK
  dsimp only
  rw [extractStridedSlice_apply _ _ _ _ (ix3 n d (i.castLE (by decide : 256 ≤ 1024))) (by
    intro a
    match a with
    | ⟨0, _⟩ => exact (Nat.zero_add _).symm
    | ⟨1, _⟩ => exact (Nat.zero_add _).symm
    | ⟨2, _⟩ => exact (Nat.zero_add _).symm)]
  generalize i.castLE (by decide : 256 ≤ 1024) = j
  have hy (k : Fin 1024) : (if hd : 2 < S32x1024x1024.rank then
      iotaInDim S32x1024x1024 32 ⟨2, hd⟩ ((ix3 n d j : S32x1024x1024.Idx).along 2 k) else 0#32) = BitVec.ofNat 32 k.val := by
    rw [along_lane]
    rfl
  exact (sort2_snd (s := S32x1024x1024) 2 _ q _ (ix3 n d j)).trans
    ((hy _).trans (congrArg (fun B => BitVec.ofNat 32 (sortedFrom B j).val) (before_lane q n d j)))

/-- An index below 1024, as a word: not negative, and read back unchanged. -/
theorem ofNat_cmp (p : ℕ) (hp : p < 1024) : IntOp.cmpi .slt (BitVec.ofNat 32 p) 0#32 = 0#1
    ∧ IntOp.cmpi .sge (BitVec.ofNat 32 p) 0#32 = 1#1 ∧ IntOp.cmpi .sle (BitVec.ofNat 32 p) 1023#32 = 1#1
    ∧ (BitVec.ofNat 32 p).toInt.toNat = p := by
  have h : ∀ p : Fin 1024, IntOp.cmpi .slt (BitVec.ofNat 32 p.val) 0#32 = 0#1
    ∧ IntOp.cmpi .sge (BitVec.ofNat 32 p.val) 0#32 = 1#1 ∧ IntOp.cmpi .sle (BitVec.ofNat 32 p.val) 1023#32 = 1#1
    ∧ (BitVec.ofNat 32 p.val).toInt.toNat = p.val := by decide +kernel
  exact h ⟨p, hp⟩

/-- An index below 1024 is taken as it is. -/
theorem hostWrapped_apply (k : IVec S32x1024x256 32) (n : Fin 32) (d : Fin 1024) (i : Fin 256) (p : ℕ) (hp : p < 1024)
    (h : k (ix3 n d i) = BitVec.ofNat 32 p) : hostWrapped k (ix4 n d i 0) = BitVec.ofNat 32 p := by
  unfold hostWrapped
  pointwise
  rw [h, (ofNat_cmp p hp).1]
  rfl

/-- The gather at `(n, d, i)`: the argument's row `(n, d)` at the index there. -/
theorem gather_lane (x : FVec Ideal S32x1024x1024 .f32) (k : IVec S32x1024x256x1 32) (n : Fin 32) (d : Fin 1024) (i : Fin 256) (p : ℕ)
    (hp : p < 1024) (h : k (ix4 n d i 0) = BitVec.ofNat 32 p) :
    Host.gather gather_S32x1024x1024_S32x1024x256x1_S32x1024x256_n_2_01_01_2_3_111 x k (ix3 n d i) = x (ix3 n d ⟨p, hp⟩) := by
  generalize hg : gather_S32x1024x1024_S32x1024x256x1_S32x1024x256_n_2_01_01_2_3_111 = g
  have ho : g.operandBatchingDims = [0, 1] := by rw [← hg]; rfl
  have hs : g.sKept = [] := by rw [← hg]; decide
  refine congrArg x (funext fun a => Fin.ext ?_)
  show g.start (ix3 n d i) k a + g.batchCoord (ix3 n d i) a + g.offCoord (ix3 n d i) a = _
  rw [g.offCoord_eq_zero _ _ (by rw [hs]; exact List.not_mem_nil), Nat.add_zero]
  match a with
  | ⟨0, _⟩ =>
    rw [g.start_batching _ _ _ (by rw [ho]; exact List.mem_cons_self), Nat.zero_add]
    subst hg
    rfl
  | ⟨1, _⟩ =>
    rw [g.start_batching _ _ _ (by rw [ho]; exact List.mem_cons_of_mem _ List.mem_cons_self), Nat.zero_add]
    subst hg
    rfl
  | ⟨2, _⟩ =>
    rw [g.batchCoord_eq_zero _ _ (by rw [ho]; intro h; simp at h), Nat.add_zero]
    subst hg
    have e : (gather_S32x1024x1024_S32x1024x256x1_S32x1024x256_n_2_01_01_2_3_111).siIdx (ix3 n d i) ⟨0, by decide⟩ = ix4 n d i 0 := by
      funext b
      match b with
      | ⟨0, _⟩ => rfl
      | ⟨1, _⟩ => rfl
      | ⟨2, _⟩ => rfl
      | ⟨3, _⟩ => rfl
    show min (k ((gather_S32x1024x1024_S32x1024x256x1_S32x1024x256_n_2_01_01_2_3_111).siIdx (ix3 n d i) ⟨0, by decide⟩)).toInt.toNat 1023 = p
    rw [e, h, (ofNat_cmp p hp).2.2.2]
    omega

/-- At an index below 1024 the gather takes the argument's element there. -/
theorem hostTake_apply (x : FVec Ideal S32x1024x1024 .f32) (k : IVec S32x1024x256x1 32) (n : Fin 32) (d : Fin 1024) (i : Fin 256) (p : ℕ)
    (hp : p < 1024) (h : k (ix4 n d i 0) = BitVec.ofNat 32 p) : hostTake x k (ix3 n d i) = x (ix3 n d ⟨p, hp⟩) := by
  rw [← gather_lane x k n d i p hp h]
  unfold hostTake
  pointwise
  rw [Finset.univ_unique, Finset.fold_singleton]
  rw [show (default : Fin 1) = 0 from rfl, h, (ofNat_cmp p hp).2.1, (ofNat_cmp p hp).2.2.1]
  rfl

/-- THE REFERENCE'S RESULT at `(n, i, d)`: of the argument's row `(n, d)` the element at the position of the row's `i`-th greatest
    softmax key. -/
theorem reference_apply (m : (ℓ : Loc nD τ sig) → Buf (Elt Ideal) ℓ) (c : Dev nD) (x : FVec Ideal S32x1024x1024 .f32)
    (W : FVec Ideal S1024x1024 .f32) (b : FVec Ideal S1024 .f32) (hx : m ((c.tc : Thread nD τ).loc main_arg0) = x)
    (hW : m ((c.tc : Thread nD τ).loc main_arg1) = W) (hb : m ((c.tc : Thread nD τ).loc main_arg2) = b)
    (n : Fin 32) (i : Fin 256) (d : Fin 1024) :
    res_main_v17 m c (ix3 n i d) = x (ix3 n d (sortedFrom (keyFirst (softmax (logits (fun s => x (ix3 n s d)) (fun e s => W (ix2 e s))
      fun e => b (ix1 e)))) (i.castLE (by decide : 256 ≤ 1024)))) := by
  rw [res_eq, hx, hW, hb]
  have hk : (fun e => hostSoftmax (hostLogits x W b) (ix3 n d e)) = softmax (logits (fun s => x (ix3 n s d)) (fun e s => W (ix2 e s))
      fun e => b (ix1 e)) := by
    funext e
    rw [hostSoftmax_apply]
    exact congrArg (softmax · e) (funext fun e => hostLogits_apply x W b n d e)
  have ht (A : FVec Ideal S32x1024x256 .f32) :
      transpose S32x256x1024 [0, 2, 1] A transposes_S32x1024x256_S32x256x1024_0_2_1 (ix3 n i d) = A (ix3 n d i) := by
    pointwise
  have h := hostIndices_apply (hostSoftmax (hostLogits x W b)) n d i
  rw [hk] at h
  generalize sortedFrom (keyFirst (softmax (logits (fun s => x (ix3 n s d)) (fun e s => W (ix2 e s)) fun e => b (ix1 e))))
    (i.castLE (by decide : 256 ≤ 1024)) = p at h ⊢
  rw [ht]
  exact hostTake_apply x _ n d i p.val p.isLt (hostWrapped_apply _ n d i p.val p.isLt h)

end Cert.TopK

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The reference's run ends with its arguments unchanged and every counter at zero. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's result is the reference's: at batch entry `n`, place `i`, row `d` both are the row's element at the lane that
    the stable descending sort of the row's softmax keys puts at place `i`. -/
theorem algebraic : Cert.algebraic_KernelIdeal_ReferenceIdeal := fun m g m' g' _ hagree =>
  ⟨_, Cert.TopK.kernel_run m g, (θ_run Cert.ReferenceIdeal.defs _ _).mono (fun r h c => ⟨(h c).1.trans (by
      funext j
      obtain ⟨h0, h1, h2⟩ := hagree c
      have hj : j = ix3 (j 0) (j 1) (j 2) := by
        funext a
        fin_cases a <;> rfl
      rw [hj]
      exact (Cert.TopK.reference_apply m' c _ _ _ h0 h1 h2 (j 0) (j 1) (j 2)).trans
        (Cert.TopK.W_main_v2_apply m c (j 0) (j 1) (j 2)).symm), (h c).2⟩)
    (Cert.ReferenceIdeal.Value.run (F := Ideal) m' g')⟩

/-- THE CLAIM. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, algebraic⟩

end Cert.Proof

end
